-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1024 : Shape := ⟨3, ![2, 1024, 1024]⟩
abbrev S1024x1024 : Shape := ⟨2, ![1024, 1024]⟩
abbrev S1024 : Shape := ⟨1, ![1024]⟩
abbrev S16x64x64 : Shape := ⟨3, ![16, 64, 64]⟩
abbrev S2048x1024 : Shape := ⟨2, ![2048, 1024]⟩
abbrev S8x1x128 : Shape := ⟨3, ![8, 1, 128]⟩
abbrev S128x1024 : Shape := ⟨2, ![128, 1024]⟩
abbrev S1x1x128 : Shape := ⟨3, ![1, 1, 128]⟩
abbrev S2x64x64 : Shape := ⟨3, ![2, 64, 64]⟩
abbrev S2048x128 : Shape := ⟨2, ![2048, 128]⟩
abbrev S1x128 : Shape := ⟨2, ![1, 128]⟩
abbrev S2048x64 : Shape := ⟨2, ![2048, 64]⟩
abbrev S1x64x64 : Shape := ⟨3, ![1, 64, 64]⟩
abbrev S64x64 : Shape := ⟨2, ![64, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S16x64x64, .f32⟩
  | .hbm, ⟨4, _⟩ => ⟨S16x64x64, .f32⟩
  | .hbm, ⟨5, _⟩ => ⟨S2048x1024, .f32⟩
  | .hbm, ⟨6, _⟩ => ⟨S2048x1024, .bf16⟩
  | .hbm, ⟨7, _⟩ => ⟨S8x1x128, .f32⟩
  | .hbm, ⟨8, _⟩ => ⟨S1024x1024, .bf16⟩
  | .hbm, ⟨9, _⟩ => ⟨S16x64x64, .bf16⟩
  | .hbm, ⟨10, _⟩ => ⟨S16x64x64, .bf16⟩
  | .hbm, ⟨11, _⟩ => ⟨S2048x1024, .f32⟩
  | .hbm, ⟨12, _⟩ => ⟨S2x1024x1024, .f32⟩
  | .local _ .vmem, ⟨0, _⟩ => ⟨S2048x1024, .bf16⟩
  | .local _ .vmem, ⟨1, _⟩ => ⟨S128x1024, .bf16⟩
  | .local _ .vmem, ⟨2, _⟩ => ⟨S128x1024, .bf16⟩
  | .local _ .vmem, ⟨3, _⟩ => ⟨S1x1x128, .f32⟩
  | .local _ .vmem, ⟨4, _⟩ => ⟨S1x1x128, .f32⟩
  | .local _ .vmem, ⟨5, _⟩ => ⟨S2x64x64, .bf16⟩
  | .local _ .vmem, ⟨6, _⟩ => ⟨S2x64x64, .bf16⟩
  | .local _ .vmem, ⟨7, _⟩ => ⟨S2x64x64, .bf16⟩
  | .local _ .vmem, ⟨8, _⟩ => ⟨S2x64x64, .bf16⟩
  | .local _ .vmem, ⟨9, _⟩ => ⟨S2048x128, .f32⟩
  | .local _ .vmem, ⟨10, _⟩ => ⟨S2048x128, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S16x64x64 : Shape := ⟨3, ![16, 64, 64]⟩
abbrev S1x1x1024 : Shape := ⟨3, ![1, 1, 1024]⟩
abbrev S2x1024x16x64 : Shape := ⟨4, ![2, 1024, 16, 64]⟩
abbrev S16x2x1024x64 : Shape := ⟨4, ![16, 2, 1024, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S16x64x64, .f32⟩
  | .hbm, ⟨4, _⟩ => ⟨S16x64x64, .f32⟩
  | .hbm, ⟨5, _⟩ => ⟨S2x1024x1024, .f32⟩
  | .hbm, ⟨6, _⟩ => ⟨S1x1x1024, .f32⟩
  | .hbm, ⟨7, _⟩ => ⟨S2x1024x1024, .f32⟩
  | .hbm, ⟨8, _⟩ => ⟨S2x1024x1024, .f32⟩
  | .hbm, ⟨9, _⟩ => ⟨S2x1024x16x64, .f32⟩
  | .hbm, ⟨10, _⟩ => ⟨S16x2x1024x64, .f32⟩
  | .hbm, ⟨11, _⟩ => ⟨S16x2048x64, .f32⟩
  | .hbm, ⟨12, _⟩ => ⟨S16x2048x64, .f32⟩
  | .hbm, ⟨13, _⟩ => ⟨S16x2048x64, .f32⟩
  | .hbm, ⟨14, _⟩ => ⟨S16x2048x2048, .f32⟩
  | .hbm, ⟨15, _⟩ => ⟨S_, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x64, .f32⟩
  | .hbm, ⟨34, _⟩ => ⟨S16x2x1024x64, .f32⟩
  | .hbm, ⟨35, _⟩ => ⟨S2x1024x16x64, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Spec.lean ====
module

public import Idealize.ShloMosaic.PureOps.Ideal

/-!
The function that both programs compute, over the extended reals and free of any array layout:
softmax attention of one row against 2048 rows, of one head, of all the heads.
-/

@[expose] public section

noncomputable section

namespace Cert.Attn

open Idealize.ShloMosaic

/-- The largest of a row of scores, started at what the float word of minus infinity denotes. -/
def rowMax (s : Fin 2048 → EReal) : EReal :=
  Finset.fold max (Ideal.ofBits .f32 0xFF800000#32) s Finset.univ

/-- The softmax of the scores `s`, each weight multiplying its value `v`, summed. -/
def softRow (s v : Fin 2048 → EReal) : EReal :=
  ∑ m, Ideal.div (Ideal.exp (s m - rowMax s)) (∑ l, Ideal.exp (s l - rowMax s)) * v m

/-- The scaled score of query row `n` against key row `m`. -/
def score (q k : Fin 2048 → Fin 64 → EReal) (n m : Fin 2048) : EReal :=
  (∑ e, q n e * k m e) * Ideal.ofBits .f32 0x3D000000#32

/-- One entry of the attention output from the queries, keys and values of a head. -/
def rowOut (q k v : Fin 2048 → Fin 64 → EReal) (n : Fin 2048) (d : Fin 64) : EReal :=
  softRow (fun m => score q k n m) fun m => v m d

/-- One head: queries and keys are `f` times the head's two square matrices, the values are `f` itself. -/
def head (f : Fin 2048 → Fin 64 → EReal) (wq wk : Fin 64 → Fin 64 → EReal) (n : Fin 2048) (d : Fin 64) : EReal :=
  rowOut (fun n e => ∑ a, f n a * wq a e) (fun n e => ∑ a, f n a * wk a e) f n d

end Cert.Attn

end
-- ==== Proof.Block.lean ====
module

public import proofs.«01_k».proof.Proof.Spec
public import proofs.«01_k».proof.Proof.Gen.KernelIdeal.Frame
public import Idealize.ShloMosaic.Lib.Pointwise
public import Idealize.ShloMosaic.Lib.Pipeline.ValueKit

/-!
What one grid point of the kernel leaves in its output block: two heads of attention, side by side.
-/

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

variable (X : Vec Ideal S2048x1024 .bf16) (W : Vec Ideal S128x1024 .bf16) (B : Vec Ideal S1x1x128 .f32)
  (WQ WK : Vec Ideal S2x64x64 .bf16)

/-- Column `c` of the block's projection, at row `n`. -/
def proj (n : Fin 2048) (c : Fin 128) : EReal :=
  (∑ k : Fin 1024, (X (ix2 n k) : EReal) * W (ix2 c k)) + B (ix3 0 0 c)

/-- The projection's columns that belong to head `p` of the block's two. -/
def headProj (p : Fin 2) (n : Fin 2048) (a : Fin 64) : EReal :=
  proj X W B n ⟨p.val * 64 + a.val, by omega⟩

/-- Entry `(n, d)` of head `p` of the block's two. -/
def headOut (p : Fin 2) (n : Fin 2048) (d : Fin 64) : EReal :=
  head (headProj X W B p) (fun a e => WQ (ix3 p a e)) (fun a e => WK (ix3 p a e)) n d

/-- Entry `(n, c)` of the block: column `c % 64` of head `c / 64`. -/
def blockOut (n : Fin 2048) (c : Fin 128) : EReal :=
  headOut X W B WQ WK ⟨c.val / 64, by omega⟩ n ⟨c.val % 64, by omega⟩

/-- Where a column is number `d` of head `p`, the block holds the head's column `d`. -/
theorem blockOut_eq (p : Fin 2) (n n' : Fin 2048) (c : Fin 128) (d : Fin 64) (hn : n'.val = n.val)
    (hc : c.val = p.val * 64 + d.val) :
    headOut X W B WQ WK p n d = blockOut X W B WQ WK n' c := by
  have h1 : (⟨c.val / 64, by omega⟩ : Fin 2) = p := Fin.ext (by show c.val / 64 = p.val; omega)
  have h2 : (⟨c.val % 64, by omega⟩ : Fin 64) = d := Fin.ext (by show c.val % 64 = d.val; omega)
  obtain rfl : n' = n := Fin.ext hn
  unfold blockOut
  rw [h1, h2]

/-- The first head's values, as the body computes them, are its columns of the projection. -/
theorem values_lo (n : Fin 2048) (a : Fin 64) : k0_pay29 X W B WQ WK (ix2 n a) = headProj X W B 0 n a := by
  pointwise [k0_pay29, k0_pay3, k0_pay2, headProj, proj]

/-- The second head's values are its columns of the projection. -/
theorem values_hi (n : Fin 2048) (a : Fin 64) : k0_pay32 X W B WQ WK (ix2 n a) = headProj X W B 1 n a := by
  pointwise [k0_pay32, k0_pay28, k0_pay15, k0_pay2, headProj, proj]

/-- The first head's queries: the projection's columns times the head's query matrix. -/
theorem queries_lo (n : Fin 2048) (e : Fin 64) :
    k0_pay30 X W B WQ WK (ix2 n e) = ∑ a, headProj X W B 0 n a * WQ (ix3 0 a e) := by
  have h := fun a => values_lo X W B WQ WK n a
  unfold k0_pay29 at h
  pointwise [k0_pay30, k0_pay4, h]

/-- The first head's keys. -/
theorem keys_lo (n : Fin 2048) (e : Fin 64) :
    k0_pay31 X W B WQ WK (ix2 n e) = ∑ a, headProj X W B 0 n a * WK (ix3 0 a e) := by
  have h := fun a => values_lo X W B WQ WK n a
  unfold k0_pay29 at h
  pointwise [k0_pay31, k0_pay5, h]

/-- The second head's queries. -/
theorem queries_hi (n : Fin 2048) (e : Fin 64) :
    k0_pay33 X W B WQ WK (ix2 n e) = ∑ a, headProj X W B 1 n a * WQ (ix3 1 a e) := by
  have h := fun a => values_hi X W B WQ WK n a
  unfold k0_pay32 at h
  pointwise [k0_pay33, k0_pay16, h]

/-- The second head's keys. -/
theorem keys_hi (n : Fin 2048) (e : Fin 64) :
    k0_pay34 X W B WQ WK (ix2 n e) = ∑ a, headProj X W B 1 n a * WK (ix3 1 a e) := by
  pointwise [k0_pay34, k0_pay17, values_hi X W B WQ WK]

/-- The first head from the queries, keys and values that the body computes. -/
theorem headOut_lo (n : Fin 2048) (d : Fin 64) :
    headOut X W B WQ WK 0 n d = rowOut (fun n e => k0_pay30 X W B WQ WK (ix2 n e))
      (fun n e => k0_pay31 X W B WQ WK (ix2 n e)) (fun n d => k0_pay29 X W B WQ WK (ix2 n d)) n d := by
  simp only [queries_lo, keys_lo, values_lo]
  rfl

/-- The second head likewise. -/
theorem headOut_hi (n : Fin 2048) (d : Fin 64) :
    headOut X W B WQ WK 1 n d = rowOut (fun n e => k0_pay33 X W B WQ WK (ix2 n e))
      (fun n e => k0_pay34 X W B WQ WK (ix2 n e)) (fun n d => k0_pay32 X W B WQ WK (ix2 n d)) n d := by
  simp only [queries_hi, keys_hi, values_hi]
  rfl

set_option maxHeartbeats 400000 in
/-- What the body leaves in the output block is `blockOut` of the input blocks. -/
theorem out_at (y : S2048x128.Idx) : out0_5 X W B WQ WK y = blockOut X W B WQ WK (y 0) (y 1) := by
  have first : ∀ (v : Nat) (hv : v < 2048) (d : Fin 64), (y 0).val = v → (y 1).val = d.val →
      rowOut (fun n e => k0_pay30 X W B WQ WK (ix2 n e)) (fun n e => k0_pay31 X W B WQ WK (ix2 n e))
        (fun n d => k0_pay29 X W B WQ WK (ix2 n d)) ⟨v, hv⟩ d = blockOut X W B WQ WK (y 0) (y 1) := fun v hv d h0 h1 =>
    (headOut_lo X W B WQ WK ⟨v, hv⟩ d).symm.trans
      (blockOut_eq X W B WQ WK 0 ⟨v, hv⟩ (y 0) (y 1) d h0 (by rw [h1]; simp))
  have second : ∀ (v : Nat) (hv : v < 2048) (d : Fin 64), (y 0).val = v → (y 1).val = 64 + d.val →
      rowOut (fun n e => k0_pay33 X W B WQ WK (ix2 n e)) (fun n e => k0_pay34 X W B WQ WK (ix2 n e))
        (fun n d => k0_pay32 X W B WQ WK (ix2 n d)) ⟨v, hv⟩ d = blockOut X W B WQ WK (y 0) (y 1) := fun v hv d h0 h1 =>
    (headOut_hi X W B WQ WK ⟨v, hv⟩ d).symm.trans
      (blockOut_eq X W B WQ WK 1 ⟨v, hv⟩ (y 0) (y 1) d h0 (by rw [h1]; simp))
  have e6 : k0_pay6 (View.ld X r0_0) (View.ld W r0_1) (View.ld B r0_2) (View.ld WQ r0_3) (View.ld WK r0_3)
      = fun i => rowOut (fun n e => k0_pay30 X W B WQ WK (ix2 n e)) (fun n e => k0_pay31 X W B WQ WK (ix2 n e))
        (fun n d => k0_pay29 X W B WQ WK (ix2 n d)) ⟨(i 0).val, by have : (i 0).val < 256 := (i 0).isLt; omega⟩ (i 1) := by
    funext i
    idx_vars i
    unfold k0_pay29 k0_pay30 k0_pay31
    pointwise [k0_pay6]
    rfl
  have e17 : k0_pay17 (k0_pay32 X W B WQ WK) (View.ld WK r0_12) = k0_pay34 X W B WQ WK := rfl
  simp only [rowOut, softRow, rowMax, score] at first second
  unfold out0_5
  rw [e6]
  generalize hG : blockOut X W B WQ WK (y 0) (y 1) = g at *
  canon_tiles x h
  all_goals idx_vars x
  all_goals pointwise [k0_pay1, k0_pay7, k0_pay8, k0_pay9, k0_pay10,
    k0_pay11, k0_pay12, k0_pay13, k0_pay14, k0_pay18, k0_pay19, k0_pay20, k0_pay21,
    k0_pay22, k0_pay23, k0_pay24, k0_pay25, k0_pay26, k0_pay27, e17, rowOut, softRow, rowMax, score]
  all_goals first
    | (have r := first _ (by omega) x1 h0 h1; exact r)
    | (have r := second _ (by omega) x1 h0 h1; exact r)

end Cert.KernelIdeal.Attn

end
-- ==== Proof.Entry.lean ====
module

public import proofs.«01_k».proof.Proof.Spec
public import Idealize.ShloMosaic.Lib.Pointwise

/-!
One entry of the attention output in terms of the five argument arrays.
-/

@[expose] public section

set_option maxRecDepth 16384

noncomputable section

namespace Cert.Attn

open Idealize.ShloMosaic Idealize.ShloMosaic.TcCoe Idealize.SL.Sem

variable (A : FVec Ideal ⟨3, ![2, 1024, 1024]⟩ .f32) (W : FVec Ideal ⟨2, ![1024, 1024]⟩ .f32)
  (b : FVec Ideal ⟨1, ![1024]⟩ .f32) (Q K : FVec Ideal ⟨3, ![16, 64, 64]⟩ .f32)

/-- Column `a` of head `h` of the projection of token `n`, the tokens of the two batches counted in one row. -/
def feature (h : Fin 16) (n : Fin 2048) (a : Fin 64) : EReal :=
  (∑ k : Fin 1024, (A (ix3 ⟨n.val / 1024, by omega⟩ ⟨n.val % 1024, by omega⟩ k) : EReal)
    * W (ix2 ⟨h.val * 64 + a.val, by omega⟩ k)) + b (ix1 ⟨h.val * 64 + a.val, by omega⟩)

/-- Column `d` of head `h` of the attention output at token `n`. -/
def entry (h : Fin 16) (n : Fin 2048) (d : Fin 64) : EReal :=
  head (feature A W b h) (fun a e => Q (ix3 h a e)) (fun a e => K (ix3 h a e)) n d

end Cert.Attn

end
-- ==== Proof.Value.lean ====
module

public import proofs.«01_k».proof.Proof.Block
public import proofs.«01_k».proof.Proof.Entry
public import Idealize.ShloMosaic.Lib.Claim

/-!
What the kernel's output array holds after the grid has run, in terms of the argument arrays.
-/

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ)

/-- Which block of its array each window stands at, at grid point `t`. -/
theorem idx : ∀ t : Fin cfg0.N, win0_0.index t = ![0, 0] ∧ win0_1.index t = ![t.val, 0]
    ∧ win0_2.index t = ![t.val, 0, 0] ∧ win0_3.index t = ![t.val, 0, 0] ∧ win0_4.index t = ![t.val, 0, 0]
    ∧ win0_5.index t = ![0, t.val] :=
  (by decide +kernel : ∀ t : Fin grid0.N, _)

/-- Two batches of 1024 rows read as one of 2048. -/
theorem stacked_at (A : FVec Ideal S2x1024x1024 .f32) (n : Fin 2048) (k : Fin 1024) :
    shapeCast S2048x1024 A shapeCasts_S2x1024x1024_S2048x1024 (ix2 n k)
      = A (ix3 ⟨n.val / 1024, by omega⟩ ⟨n.val % 1024, by omega⟩ k) := by
  pointwise

/-- A row of 1024 read as eight of 128. -/
theorem cut_at (b : FVec Ideal S1024 .f32) (g : Fin 8) (j : Fin 128) :
    shapeCast S8x1x128 b shapeCasts_S1024_S8x1x128 (ix3 g 0 j) = b (ix1 ⟨g.val * 128 + j.val, by omega⟩) := by
  pointwise

/-- One of 2048 rows read as two batches of 1024. -/
theorem batched_at (A : FVec Ideal S2048x1024 .f32) (b : Fin 2) (s e : Fin 1024) :
    shapeCast S2x1024x1024 A shapeCasts_S2048x1024_S2x1024x1024 (ix3 b s e)
      = A (ix2 ⟨b.val * 1024 + s.val, by omega⟩ e) := by
  pointwise

/-- The rows that the host passes to the kernel are the tokens of the two batches, one after the other. -/
theorem rows_at (c : Dev nD) (n : Fin 2048) (k : Fin 1024) :
    (show FVec Ideal S2048x1024 .bf16 from V m c main_v1) (ix2 n k)
      = m ((c : Thread nD τ).loc main_arg0) (ix3 ⟨n.val / 1024, by omega⟩ ⟨n.val % 1024, by omega⟩ k) := by
  show V0 m c (Proc.devRef .tc main_v1) (ix2 n k) = _
  unfold V0 hostOps0
  simp only [List.flatten_cons, List.flatten_nil, List.append_nil, StableHlo.after_cons, StableHlo.after_nil]
  after_results_simp
  exact stacked_at _ n k

/-- The bias that the host passes is laid out in eight rows of 128. -/
theorem bias_at (c : Dev nD) (g : Fin 8) (j : Fin 128) :
    (show FVec Ideal S8x1x128 .f32 from V m c main_v2) (ix3 g 0 j)
      = m ((c : Thread nD τ).loc main_arg2) (ix1 ⟨g.val * 128 + j.val, by omega⟩) := by
  show V0 m c (Proc.devRef .tc main_v2) (ix3 g 0 j) = _
  unfold V0 hostOps0
  simp only [List.flatten_cons, List.flatten_nil, List.append_nil, StableHlo.after_cons, StableHlo.after_nil]
  after_results_simp
  exact cut_at _ g j

/-- The rows that the kernel multiplies are the tokens of the two batches, one after the other. -/
theorem read_rows (c : Dev nD) (t : Fin cfg0.N) (n : Fin 2048) (k : Fin 1024) :
    (iblk m c 0 t (ix2 n k) : EReal)
      = m ((c : Thread nD τ).loc main_arg0) (ix3 ⟨n.val / 1024, by omega⟩ ⟨n.val % 1024, by omega⟩ k) := by
  refine Eq.trans ?_ (rows_at m c n k)
  blk_ext [iblk, idx t]

/-- The weight rows of grid point `t` are numbers `128 t` and on of the weight. -/
theorem read_weight (c : Dev nD) (t : Fin cfg0.N) (j : Fin 128) (j' : Fin 1024) (k : Fin 1024)
    (hj : j'.val = t.val * 128 + j.val) :
    (iblk m c 1 t (ix2 j k) : EReal) = m ((c : Thread nD τ).loc main_arg1) (ix2 j' k) := by
  blk_point [iblk, V, idx t]

/-- The bias entries likewise. -/
theorem read_bias (c : Dev nD) (t : Fin cfg0.N) (j : Fin 128) (j' : Fin 1024)
    (hj : j'.val = t.val * 128 + j.val) :
    (iblk m c 2 t (ix3 0 0 j) : EReal) = m ((c : Thread nD τ).loc main_arg2) (ix1 j') := by
  have ht : t.val < 8 := t.isLt
  have e : j' = ⟨(⟨t.val, ht⟩ : Fin 8).val * 128 + j.val, by simp only []; omega⟩ := Fin.ext hj
  rw [e]
  refine Eq.trans ?_ (bias_at m c ⟨t.val, ht⟩ j)
  blk_ext [iblk, idx t]

/-- Grid point `t` holds the query matrices of heads `2 t` and `2 t + 1`. -/
theorem read_query (c : Dev nD) (t : Fin cfg0.N) (p : Fin 2) (h : Fin 16) (a e : Fin 64)
    (hh : h.val = t.val * 2 + p.val) :
    (iblk m c 3 t (ix3 p a e) : EReal) = m ((c : Thread nD τ).loc main_arg3) (ix3 h a e) := by
  blk_point [iblk, V, idx t]

/-- And their key matrices. -/
theorem read_key (c : Dev nD) (t : Fin cfg0.N) (p : Fin 2) (h : Fin 16) (a e : Fin 64)
    (hh : h.val = t.val * 2 + p.val) :
    (iblk m c 4 t (ix3 p a e) : EReal) = m ((c : Thread nD τ).loc main_arg4) (ix3 h a e) := by
  blk_point [iblk, V, idx t]

/-- The entry of the attention output that the kernel's array holds at row `n`, column `j`. -/
def outAt (c : Dev nD) (n : Fin 2048) (j : Fin 1024) : EReal :=
  entry (m ((c : Thread nD τ).loc main_arg0)) (m ((c : Thread nD τ).loc main_arg1))
    (m ((c : Thread nD τ).loc main_arg2)) (m ((c : Thread nD τ).loc main_arg3))
    (m ((c : Thread nD τ).loc main_arg4)) ⟨j.val / 64, by omega⟩ n ⟨j.val % 64, by omega⟩

/-- Entry `(n, j)` of the block that grid point `t` leaves is the attention output's, at column `128 t + j`. -/
theorem point (c : Dev nD) (t : Fin cfg0.N) (n : Fin 2048) (j : Fin 128) (j' : Fin 1024)
    (hj : j'.val = t.val * 128 + j.val) :
    blockOut (iblk m c 0 t) (iblk m c 1 t) (iblk m c 2 t) (iblk m c 3 t) (iblk m c 4 t) n j = outAt m c n j' := by
  have hp : headProj (iblk m c 0 t) (iblk m c 1 t) (iblk m c 2 t) ⟨j.val / 64, by omega⟩
      = feature (m ((c : Thread nD τ).loc main_arg0)) (m ((c : Thread nD τ).loc main_arg1))
        (m ((c : Thread nD τ).loc main_arg2)) ⟨j'.val / 64, by omega⟩ := by
    funext n a
    unfold headProj proj feature
    refine congr (congrArg HAdd.hAdd (Finset.sum_congr rfl fun k _ => ?_)) ?_
    · exact congr (congrArg HMul.hMul (read_rows m c t n k)) (read_weight m c t _ _ k (by simp only []; omega))
    · exact read_bias m c t _ _ (by simp only []; omega)
  have hq := fun a e => read_query m c t ⟨j.val / 64, by omega⟩ ⟨j'.val / 64, by omega⟩ a e (by simp only []; omega)
  have hk := fun a e => read_key m c t ⟨j.val / 64, by omega⟩ ⟨j'.val / 64, by omega⟩ a e (by simp only []; omega)
  have hd : (⟨j.val % 64, by omega⟩ : Fin 64) = ⟨j'.val % 64, by omega⟩ := Fin.ext (by simp only []; omega)
  unfold blockOut headOut outAt entry
  simp only [hp, hq, hk, hd]

/-- The kernel's output array after the run. -/
theorem final (c : Dev nD) : (dats m 0 c).arrAt 5 (cfgs 0).N = fun i => outAt m c (i 0) (i 1) := by
  refine (dats m 0 c).arrAt_eq_of_covers 5 _ (by decide +kernel) fun t _ y => ?_
  blk_simp
  rw [after0_5]
  refine (out_at _ _ _ _ _ y).trans ?_
  have h0 : (((cfg0.win 5).blk t).view.emb y 0 : Fin 2048) = y 0 := by
    apply Fin.ext
    blk_simp [idx t]
  have h1 : (((cfg0.win 5).blk t).view.emb y 1 : Fin 1024).val = t.val * 128 + (y 1).val := by
    blk_simp [idx t]
  refine (point m c t (y 0) (y 1) _ h1).trans ?_
  show outAt m c _ _ = outAt m c _ _
  rw [h0]

/-- What the kernel returns, entry by entry. -/
theorem res_at (c : Dev nD) (b : Fin 2) (s e : Fin 1024) :
    (show FVec Ideal S2x1024x1024 .f32 from Pipeline.afterTail₀ cfgs (dats m) 0 (V0 m) [hostOps1] c main_v7) (ix3 b s e)
      = outAt m c ⟨b.val * 1024 + s.val, by omega⟩ e := by
  have hA : Pipeline.withArrays (cfgs 0).spec c (V0 m c) (fun w => (dats m 0 c).arrAt w (cfgs 0).N)
      (Proc.devRef .tc main_v6) = (dats m 0 c).arrAt 5 (cfgs 0).N :=
    Pipeline.withArrays_arr (cfgs 0).spec launch0.win.arr_inj c (V0 m c) _ 5
  show Pipeline.afterTail₀ cfgs (dats m) 0 (V0 m) [hostOps1] c main_v7 (ix3 b s e) = _
  unfold Pipeline.afterTail₀ hostOps1
  simp only [List.flatten_cons, List.flatten_nil, List.append_nil, StableHlo.after_cons, StableHlo.after_nil]
  after_results_simp
  rw [hA, final]
  exact batched_at _ b s e

end Cert.KernelIdeal.Attn

end
-- ==== Proof.Ref.lean ====
module

public import proofs.«01_k».proof.Proof.Entry
public import proofs.«01_k».proof.Proof.Gen.ReferenceIdeal.Run
public import Idealize.ShloMosaic.Lib.Pointwise

/-!
What the reference returns, entry by entry.
-/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

/-- The projection, laid out head by head. -/
def feats (A : FVec Ideal S2x1024x1024 .f32) (W : FVec Ideal S1024x1024 .f32) (b : FVec Ideal S1024 .f32) :
    FVec Ideal S16x2048x64 .f32 :=
  shapeCast _ (transpose S16x2x1024x64 [2, 0, 1, 3] (shapeCast _ (addf
    (Host.dotGeneral dot_S2x1024x1024_S1024x1024_S2x1024x1024_2_1_01_0_n_n none A W)
    (broadcastInDim S2x1024x1024 ![0, 1, 2] bcast_S1x1x1024_S2x1024x1024_0_1_2
      (broadcastInDim S1x1x1024 ![2] bcast_S1024_S1x1x1024_2 b))) shapeCasts_S2x1024x1024_S2x1024x16x64)
    transposes_S2x1024x16x64_S16x2x1024x64_2_0_1_3) shapeCasts_S16x2x1024x64_S16x2048x64

/-- Every head's rows times the head's square matrix: the queries, and the keys. -/
def mixed (f : FVec Ideal S16x2048x64 .f32) (q : FVec Ideal S16x64x64 .f32) : FVec Ideal S16x2048x64 .f32 :=
  Host.dotGeneral dot_S16x2048x64_S16x64x64_S16x2048x64_2_1_1_2_0_0 none f q

/-- The scaled scores of every query against every key. -/
def scores (q k : FVec Ideal S16x2048x64 .f32) : FVec Ideal S16x2048x2048 .f32 :=
  Host.divf (Host.dotGeneral dot_S16x2048x64_S16x2048x64_S16x2048x2048_2_2_1_1_0_0 none q k)
    (broadcastInDim S16x2048x2048 ![] bcast_S_S16x2048x2048 (Host.sqrt (constant S_ .f32 0x44800000#32)))

/-- The exponentials of the scores, each less its row's largest. -/
def powers (s : FVec Ideal S16x2048x2048 .f32) : FVec Ideal S16x2048x2048 .f32 :=
  Host.exp (subf s (broadcastInDim S16x2048x2048 ![0, 1, 2] bcast_S16x2048x1_S16x2048x2048_0_1_2
    (broadcastInDim S16x2048x1 ![0, 1] bcast_S16x2048_S16x2048x1_0_1
      (maximumf (broadcastInDim S16x2048 ![] bcast_S_S16x2048 (constant S_ .f32 0xFF800000#32))
        (Host.reduce FloatOps.maximumf s (constant S_ .f32 0xFF800000#32)
          reducesTo_S16x2048x2048_S16x2048_d2 h_S_)))))

/-- The exponentials over their row's sum. -/
def weights (p : FVec Ideal S16x2048x2048 .f32) : FVec Ideal S16x2048x2048 .f32 :=
  Host.divf p (broadcastInDim S16x2048x2048 ![0, 1, 2] bcast_S16x2048x1_S16x2048x2048_0_1_2
    (broadcastInDim S16x2048x1 ![0, 1] bcast_S16x2048_S16x2048x1_0_1
      (Host.reduceAdd p (constant S_ .f32 0x00000000#32) reducesTo_S16x2048x2048_S16x2048_d2 h_S_)))

/-- The weighted values, laid out token by token again. -/
def merged (w : FVec Ideal S16x2048x2048 .f32) (f : FVec Ideal S16x2048x64 .f32) : FVec Ideal S2x1024x1024 .f32 :=
  shapeCast _ (transpose S2x1024x16x64 [1, 2, 0, 3] (shapeCast _
    (Host.dotGeneral dot_S16x2048x2048_S16x2048x64_S16x2048x64_2_1_1_2_0_0 none w f)
    shapeCasts_S16x2048x64_S16x2x1024x64) transposes_S16x2x1024x64_S2x1024x16x64_1_2_0_3)
    shapeCasts_S2x1024x16x64_S2x1024x1024

/-- The projection at head `h`, token `n`, column `a`. -/
theorem feats_at (A : FVec Ideal S2x1024x1024 .f32) (W : FVec Ideal S1024x1024 .f32) (b : FVec Ideal S1024 .f32)
    (h : Fin 16) (n : Fin 2048) (a : Fin 64) : feats A W b (ix3 h n a) = feature A W b h n a := by
  pointwise [feats, feature]

/-- A query or a key at head `h`, token `n`, column `e`. -/
theorem mixed_at (f : FVec Ideal S16x2048x64 .f32) (q : FVec Ideal S16x64x64 .f32) (h : Fin 16) (n : Fin 2048)
    (e : Fin 64) : mixed f q (ix3 h n e) = ∑ a : Fin 64, (f (ix3 h n a) : EReal) * q (ix3 h a e) := by
  pointwise [mixed]

/-- Dividing by the root of 1024 is multiplying by 1/32, whatever the dividend. -/
theorem div_root (x : EReal) :
    Ideal.div x (Ideal.sqrt (Ideal.ofBits .f32 0x44800000#32)) = x * Ideal.ofBits .f32 0x3D000000#32 := by
  have h1 : Ideal.ofBits .f32 0x44800000#32 = ((1024 : ℝ) : EReal) := by
    simp [Ideal.ofBits, Ideal.ieee]; rw [← EReal.coe_mul]; norm_num
  have h2 : Ideal.ofBits .f32 0x3D000000#32 = ((1 / 32 : ℝ) : EReal) := by
    simp [Ideal.ofBits, Ideal.ieee]; rw [← EReal.coe_mul]; norm_num
  have h3 : Real.sqrt 1024 = 32 := by
    rw [show (1024 : ℝ) = 32 ^ 2 by norm_num]; exact Real.sqrt_sq (by norm_num)
  rw [h1, h2, Ideal.sqrt_coe, if_neg (by norm_num), h3, Ideal.div_coe (by norm_num)]

/-- The float word of minus infinity denotes the least extended real. -/
theorem word_bot : Ideal.ofBits .f32 0xFF800000#32 = ⊥ := by
  simp [Ideal.ofBits, Ideal.ieee]

/-- The scaled score of token `n`'s query against token `l`'s key. -/
theorem scores_at (q k : FVec Ideal S16x2048x64 .f32) (h : Fin 16) (n l : Fin 2048) :
    scores q k (ix3 h n l) = score (fun n e => q (ix3 h n e)) (fun n e => k (ix3 h n e)) n l := by
  pointwise [scores, score]
  exact div_root _

/-- The host's maximum over a row is the row's largest score. -/
theorem largest_at (s : FVec Ideal S16x2048x2048 .f32) (h : Fin 16) (n : Fin 2048) :
    Host.reduce FloatOps.maximumf s (constant S_ .f32 0xFF800000#32) reducesTo_S16x2048x2048_S16x2048_d2 h_S_
      (ix2 h n) = rowMax fun l => s (ix3 h n l) := by
  rw [Host.reduce_eq_fold]
  rw [Shape.ReducesTo.fold_fiber_r3_a2]
  rfl

/-- Nothing is below the row's largest score, so a maximum with minus infinity changes nothing. -/
theorem max_rowMax (s : Fin 2048 → EReal) : max (Ideal.ofBits .f32 0xFF800000#32) (rowMax s) = rowMax s := by
  rw [word_bot]
  exact max_eq_right bot_le

/-- The exponential of a difference, at an entry. -/
theorem exp_sub_at (s t : FVec Ideal S16x2048x2048 .f32) (i : S16x2048x2048.Idx) :
    Host.exp (subf s t) i = Ideal.exp (s i - t i) := rfl

/-- A number for each row, spread along the rows. -/
theorem spread_at (r : FVec Ideal S16x2048 .f32) (h : Fin 16) (n l : Fin 2048) :
    broadcastInDim S16x2048x2048 ![0, 1, 2] bcast_S16x2048x1_S16x2048x2048_0_1_2
      (broadcastInDim S16x2048x1 ![0, 1] bcast_S16x2048_S16x2048x1_0_1 r) (ix3 h n l) = r (ix2 h n) := by
  pointwise

/-- A maximum with minus infinity, at an entry. -/
theorem floor_at (r : FVec Ideal S16x2048 .f32) (h : Fin 16) (n : Fin 2048) :
    maximumf (broadcastInDim S16x2048 ![] bcast_S_S16x2048 (constant S_ .f32 0xFF800000#32)) r (ix2 h n)
      = max (Ideal.ofBits .f32 0xFF800000#32) (r (ix2 h n)) := rfl

/-- The exponential of a score less the row's largest. -/
theorem powers_at (s : FVec Ideal S16x2048x2048 .f32) (h : Fin 16) (n l : Fin 2048) :
    powers s (ix3 h n l) = Ideal.exp (s (ix3 h n l) - rowMax fun l => s (ix3 h n l)) := by
  unfold powers
  rw [exp_sub_at, spread_at, floor_at, largest_at, max_rowMax]

/-- A weight: the exponential over the row's sum of exponentials. -/
theorem weights_at (p : FVec Ideal S16x2048x2048 .f32) (h : Fin 16) (n l : Fin 2048) :
    weights p (ix3 h n l) = Ideal.div (p (ix3 h n l)) (∑ r : Fin 2048, (p (ix3 h n r) : EReal)) := by
  pointwise [weights]

/-- The output at batch `b`, token `s`, column `e`. -/
theorem merged_at (w : FVec Ideal S16x2048x2048 .f32) (f : FVec Ideal S16x2048x64 .f32) (b : Fin 2) (s e : Fin 1024)
    (h : Fin 16) (n : Fin 2048) (d : Fin 64) (hn : n.val = b.val * 1024 + s.val) (he : e.val = h.val * 64 + d.val) :
    merged w f (ix3 b s e) = ∑ l : Fin 2048, (w (ix3 h n l) : EReal) * f (ix3 h l d) := by
  have h1 : (⟨e.val / 64, by omega⟩ : Fin 16) = h := Fin.ext (by simp only []; omega)
  have h2 : (⟨e.val % 64, by omega⟩ : Fin 64) = d := Fin.ext (by simp only []; omega)
  have h3 : (⟨b.val * 1024 + s.val, by omega⟩ : Fin 2048) = n := Fin.ext hn.symm
  pointwise [merged]
  rw [h1, h2, h3]

variable (m : (ℓ : Loc nD τ sig) → Buf (Elt Ideal) ℓ)

/-- The reference's result is these stages, one after the other. -/
theorem res_eq (c : Dev nD) (f : FVec Ideal S16x2048x64 .f32)
    (hf : f = feats (m ((c.tc : Thread nD τ).loc main_arg0)) (m ((c.tc : Thread nD τ).loc main_arg1))
      (m ((c.tc : Thread nD τ).loc main_arg2))) :
    res_main_v27 m c = merged (weights (powers (scores (mixed f (m ((c.tc : Thread nD τ).loc main_arg3)))
      (mixed f (m ((c.tc : Thread nD τ).loc main_arg4)))))) f := by
  subst hf
  unfold res_main_v27 merged weights powers scores mixed feats
  rfl

/-- The result at batch `b`, token `s`, column `e`. -/
theorem res_at (c : Dev nD) (b : Fin 2) (s e : Fin 1024) :
    res_main_v27 m c (ix3 b s e)
      = entry (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) ⟨e.val / 64, by omega⟩ ⟨b.val * 1024 + s.val, by omega⟩
        ⟨e.val % 64, by omega⟩ := by
  rw [res_eq m c _ rfl]
  refine (merged_at _ _ b s e ⟨e.val / 64, by omega⟩ ⟨b.val * 1024 + s.val, by omega⟩ ⟨e.val % 64, by omega⟩ rfl
    (by simp only []; omega)).trans ?_
  simp only [weights_at, powers_at, scores_at, mixed_at, feats_at]
  rfl

end Cert.ReferenceIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Ref
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The kernel ends, leaves its arguments as they were and every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference over the extended reals, which has no counters. -/
theorem frame_reference : Cert.quiescent_ReferenceIdeal := fun m g _ =>
  (θ_run _ _ _).mono (fun r h => ⟨fun c => (h c).2, sem_eq_zero_of_no_sems rfl r.2⟩)
    (Cert.ReferenceIdeal.Value.run m g)

/-- Where the two programs' arguments are equal, the array that the reference returns is the one the kernel returns. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v27 m' c : FVec Ideal ⟨3, ![2, 1024, 1024]⟩ .f32)
      = Pipeline.afterTail₀ Cert.KernelIdeal.cfgs (Cert.KernelIdeal.Gen.dats m) 0 (Cert.KernelIdeal.Gen.V0 m)
        [Cert.KernelIdeal.Gen.hostOps1] c Cert.KernelIdeal.main_v7 := by
  obtain ⟨h0, h1, h2, h3, h4⟩ := h
  funext i
  obtain ⟨b, s, e, rfl⟩ : ∃ (b : Fin 2) (s e : Fin 1024), i = ix3 b s e := ⟨i 0, i 1, i 2, by
    funext a
    match a with
    | ⟨0, _⟩ => rfl
    | ⟨1, _⟩ => rfl
    | ⟨2, _⟩ => rfl⟩
  refine (Cert.ReferenceIdeal.Attn.res_at m' c b s e).trans (Eq.trans ?_ (Cert.KernelIdeal.Attn.res_at m c b s e).symm)
  rw [h0, h1, h2, h3, h4]
  rfl

/-- From equal arguments the kernel and the reference return equal arrays over the extended reals. -/
theorem algebraic : Cert.algebraic_KernelIdeal_ReferenceIdeal := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
    · exact Cert.KernelIdeal.Gen.W_main_arg4 m _ c
  · run_from Cert.ReferenceIdeal.Value.run m' g'
    exact results_equal m m' c (hagree c)

/-- The certificate: the three frames, the idealization and the equality. -/
theorem claim : Cert.Claim := ⟨Cert.Kernel.Gen.facts, Cert.KernelIdeal.Gen.facts, Cert.ReferenceIdeal.Gen.facts,
  frame_kernel, frame_ideal, frame_reference, trivial, algebraic⟩

end Cert.Proof

end
